-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x14336 : Shape := ⟨3, ![256, 1, 14336]⟩
abbrev S56x2x64x4096 : Shape := ⟨4, ![56, 2, 64, 4096]⟩
abbrev S56x2x32x4096 : Shape := ⟨4, ![56, 2, 32, 4096]⟩
abbrev S56x16x4096 : Shape := ⟨3, ![56, 16, 4096]⟩
abbrev S56x4096 : Shape := ⟨2, ![56, 4096]⟩
abbrev S256x14336 : Shape := ⟨2, ![256, 14336]⟩
abbrev S56x1x4096 : Shape := ⟨3, ![56, 1, 4096]⟩
abbrev S256x4096 : Shape := ⟨2, ![256, 4096]⟩
abbrev S256x3584 : Shape := ⟨2, ![256, 3584]⟩
abbrev S14x2x64x512 : Shape := ⟨4, ![14, 2, 64, 512]⟩
abbrev S14x2x32x512 : Shape := ⟨4, ![14, 2, 32, 512]⟩
abbrev S14x16x512 : Shape := ⟨3, ![14, 16, 512]⟩
abbrev S14x1x512 : Shape := ⟨3, ![14, 1, 512]⟩
abbrev S256x512 : Shape := ⟨2, ![256, 512]⟩
abbrev S1x16x512 : Shape := ⟨3, ![1, 16, 512]⟩
abbrev S16x512 : Shape := ⟨2, ![16, 512]⟩
abbrev S1x1x512 : Shape := ⟨3, ![1, 1, 512]⟩
abbrev S1x512 : Shape := ⟨2, ![1, 512]⟩
abbrev S1x1x64x512 : Shape := ⟨4, ![1, 1, 64, 512]⟩
abbrev S64x512 : Shape := ⟨2, ![64, 512]⟩
abbrev S1x1x32x512 : Shape := ⟨4, ![1, 1, 32, 512]⟩
abbrev S32x512 : Shape := ⟨2, ![32, 512]⟩
abbrev S8x512 : Shape := ⟨2, ![8, 512]⟩
abbrev S256x256 : Shape := ⟨2, ![256, 256]⟩

abbrev nBuf : Space → Nat
  | .hbm => 8
  | .vmem => 13
  | .smem => 0
  | _ => 0

abbrev bufTy : (tb : Table) → Fin (tcTables nBuf tb) → BufTy
  | .hbm, ⟨0, _⟩ => ⟨S256x1x14336, .bf16⟩
  | .hbm, ⟨1, _⟩ => ⟨S56x2x64x4096, .i8⟩
  | .hbm, ⟨2, _⟩ => ⟨S56x2x32x4096, .i8⟩
  | .hbm, ⟨3, _⟩ => ⟨S56x16x4096, .i8⟩
  | .hbm, ⟨4, _⟩ => ⟨S56x4096, .f16⟩
  | .hbm, ⟨5, _⟩ => ⟨S256x14336, .bf16⟩
  | .hbm, ⟨6, _⟩ => ⟨S56x1x4096, .f16⟩
  | .hbm, ⟨7, _⟩ => ⟨S256x4096, .bf16⟩
  | .local _ .vmem, ⟨0, _⟩ => ⟨S256x3584, .bf16⟩
  | .local _ .vmem, ⟨1, _⟩ => ⟨S256x3584, .bf16⟩
  | .local _ .vmem, ⟨2, _⟩ => ⟨S14x2x64x512, .i8⟩
  | .local _ .vmem, ⟨3, _⟩ => ⟨S14x2x64x512, .i8⟩
  | .local _ .vmem, ⟨4, _⟩ => ⟨S14x2x32x512, .i8⟩
  | .local _ .vmem, ⟨5, _⟩ => ⟨S14x2x32x512, .i8⟩
  | .local _ .vmem, ⟨6, _⟩ => ⟨S14x16x512, .i8⟩
  | .local _ .vmem, ⟨7, _⟩ => ⟨S14x16x512, .i8⟩
  | .local _ .vmem, ⟨8, _⟩ => ⟨S14x1x512, .f16⟩
  | .local _ .vmem, ⟨9, _⟩ => ⟨S14x1x512, .f16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | _, _ => ⟨S256x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v2635 : BitVec 1 := Scalar.cmpi .eq arg1 c3_i32
  let v2636 : BitVec 32 := Scalar.extui v2635
  let c0_i32_835 : BitVec 32 := 0#32
  let v2637 : BitVec 1 := Scalar.cmpi .ne v2636 c0_i32_835
  v2637

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S14x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S14x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S14x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S14x1x512 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S256x1x14336 : Shape := ⟨3, ![256, 1, 14336]⟩
abbrev S56x2x64x4096 : Shape := ⟨4, ![56, 2, 64, 4096]⟩
abbrev S56x2x32x4096 : Shape := ⟨4, ![56, 2, 32, 4096]⟩
abbrev S56x16x4096 : Shape := ⟨3, ![56, 16, 4096]⟩
abbrev S56x4096 : Shape := ⟨2, ![56, 4096]⟩
abbrev S56x1x4096 : Shape := ⟨3, ![56, 1, 4096]⟩
abbrev S56x2x4x2x4096 : Shape := ⟨5, ![56, 2, 4, 2, 4096]⟩
abbrev S_ : Shape := ⟨0, ![]⟩
abbrev S256x1x56x2x4x32 : Shape := ⟨6, ![256, 1, 56, 2, 4, 32]⟩
abbrev S56x2x1x2x4096 : Shape := ⟨5, ![56, 2, 1, 2, 4096]⟩
abbrev S56x2x2x4096 : Shape := ⟨4, ![56, 2, 2, 4096]⟩
abbrev S56x2x2x16x4096 : Shape := ⟨5, ![56, 2, 2, 16, 4096]⟩
abbrev S56x2x2x1x4096 : Shape := ⟨5, ![56, 2, 2, 1, 4096]⟩
abbrev S256x1x56x2x1x32 : Shape := ⟨6, ![256, 1, 56, 2, 1, 32]⟩
abbrev S256x1x56x2x32 : Shape := ⟨5, ![256, 1, 56, 2, 32]⟩
abbrev S256x1x4096 : Shape := ⟨3, ![256, 1, 4096]⟩
abbrev S256x4096 : Shape := ⟨2, ![256, 4096]⟩

abbrev nBuf : Space → Nat
  | .hbm => 122
  | .vmem => 3
  | .smem => 0
  | _ => 0

abbrev bufTy : (tb : Table) → Fin (tcTables nBuf tb) → BufTy
  | .hbm, ⟨0, _⟩ => ⟨S256x1x14336, .bf16⟩
  | .hbm, ⟨1, _⟩ => ⟨S56x2x64x4096, .i8⟩
  | .hbm, ⟨2, _⟩ => ⟨S56x2x32x4096, .i8⟩
  | .hbm, ⟨3, _⟩ => ⟨S56x16x4096, .i8⟩
  | .hbm, ⟨4, _⟩ => ⟨S56x4096, .f16⟩
  | .hbm, ⟨5, _⟩ => ⟨S56x16x4096, .bf16⟩
  | .hbm, ⟨6, _⟩ => ⟨S56x2x64x4096, .i32⟩
  | .hbm, ⟨7, _⟩ => ⟨S56x2x32x4096, .i32⟩
  | .hbm, ⟨8, _⟩ => ⟨S56x2x4x2x4096, .bf16⟩
  | .hbm, ⟨9, _⟩ => ⟨S56x2x32x4096, .i32⟩
  | .hbm, ⟨10, _⟩ => ⟨S56x2x32x4096, .i32⟩
  | .hbm, ⟨11, _⟩ => ⟨S_, .i32⟩
  | .hbm, ⟨12, _⟩ => ⟨S56x2x32x4096, .i32⟩
  | .hbm, ⟨13, _⟩ => ⟨S56x2x32x4096, .i32⟩
  | .hbm, ⟨14, _⟩ => ⟨S_, .i32⟩
  | .hbm, ⟨15, _⟩ => ⟨S56x2x32x4096, .i32⟩
  | .hbm, ⟨16, _⟩ => ⟨S56x2x32x4096, .i32⟩
  | .hbm, ⟨17, _⟩ => ⟨S_, .i32⟩
  | .hbm, ⟨18, _⟩ => ⟨S56x2x32x4096, .i32⟩
  | .hbm, ⟨19, _⟩ => ⟨S56x2x32x4096, .i32⟩
  | .hbm, ⟨20, _⟩ => ⟨S56x2x32x4096, .i32⟩
  | .hbm, ⟨21, _⟩ => ⟨S_, .i32⟩
  | .hbm, ⟨22, _⟩ => ⟨S56x2x32x4096, .i32⟩
  | .hbm, ⟨23, _⟩ => ⟨S56x2x32x4096, .i32⟩
  | .hbm, ⟨24, _⟩ => ⟨S_, .i32⟩
  | .hbm, ⟨25, _⟩ => ⟨S56x2x32x4096, .i32⟩
  | .hbm, ⟨26, _⟩ => ⟨S56x2x32x4096, .i32⟩
  | .hbm, ⟨27, _⟩ => ⟨S_, .i32⟩
  | .hbm, ⟨28, _⟩ => ⟨S56x2x32x4096, .i32⟩
  | .hbm, ⟨29, _⟩ => ⟨S56x2x32x4096, .i32⟩
  | .hbm, ⟨30, _⟩ => ⟨S_, .i32⟩
  | .hbm, ⟨31, _⟩ => ⟨S56x2x32x4096, .i32⟩
  | .hbm, ⟨32, _⟩ => ⟨S56x2x32x4096, .i32⟩
  | .hbm, ⟨33, _⟩ => ⟨S56x2x32x4096, .i32⟩
  | .hbm, ⟨34, _⟩ => ⟨S_, .i32⟩
  | .hbm, ⟨35, _⟩ => ⟨S56x2x32x4096, .i32⟩
  | .hbm, ⟨36, _⟩ => ⟨S56x2x32x4096, .i32⟩
  | .hbm, ⟨37, _⟩ => ⟨S_, .i32⟩
  | .hbm, ⟨38, _⟩ => ⟨S56x2x32x4096, .i32⟩
  | .hbm, ⟨39, _⟩ => ⟨S56x2x32x4096, .i32⟩
  | .hbm, ⟨40, _⟩ => ⟨S_, .i32⟩
  | .hbm, ⟨41, _⟩ => ⟨S56x2x32x4096, .i32⟩
  | .hbm, ⟨42, _⟩ => ⟨S56x2x32x4096, .i32⟩
  | .hbm, ⟨43, _⟩ => ⟨S_, .i32⟩
  | .hbm, ⟨44, _⟩ => ⟨S56x2x32x4096, .i32⟩
  | .hbm, ⟨45, _⟩ => ⟨S56x2x32x4096, .i32⟩
  | .hbm, ⟨46, _⟩ => ⟨S56x2x32x4096, .i32⟩
  | .hbm, ⟨47, _⟩ => ⟨S_, .i32⟩
  | .hbm, ⟨48, _⟩ => ⟨S56x2x32x4096, .i32⟩
  | .hbm, ⟨49, _⟩ => ⟨S56x2x32x4096, .i32⟩
  | .hbm, ⟨50, _⟩ => ⟨S_, .i32⟩
  | .hbm, ⟨51, _⟩ => ⟨S56x2x32x4096, .i32⟩
  | .hbm, ⟨52, _⟩ => ⟨S56x2x32x4096, .i32⟩
  | .hbm, ⟨53, _⟩ => ⟨S_, .i32⟩
  | .hbm, ⟨54, _⟩ => ⟨S56x2x32x4096, .i32⟩
  | .hbm, ⟨55, _⟩ => ⟨S56x2x32x4096, .i32⟩
  | .hbm, ⟨56, _⟩ => ⟨S_, .i32⟩
  | .hbm, ⟨57, _⟩ => ⟨S56x2x32x4096, .i32⟩
  | .hbm, ⟨58, _⟩ => ⟨S56x2x32x4096, .i32⟩
  | .hbm, ⟨59, _⟩ => ⟨S56x2x32x4096, .i32⟩
  | .hbm, ⟨60, _⟩ => ⟨S256x1x56x2x4x32, .bf16⟩
  | .hbm, ⟨61, _⟩ => ⟨S56x2x1x2x4096, .bf16⟩
  | .hbm, ⟨62, _⟩ => ⟨S56x2x2x4096, .bf16⟩
  | .hbm, ⟨63, _⟩ => ⟨S56x2x32x4096, .bf16⟩
  | .hbm, ⟨64, _⟩ => ⟨S_, .bf16⟩
  | .hbm, ⟨65, _⟩ => ⟨S56x2x32x4096, .bf16⟩
  | .hbm, ⟨66, _⟩ => ⟨S56x2x32x4096, .bf16⟩
  | .hbm, ⟨67, _⟩ => ⟨S56x2x2x16x4096, .bf16⟩
  | .hbm, ⟨68, _⟩ => ⟨S56x2x2x1x4096, .bf16⟩
  | .hbm, ⟨69, _⟩ => ⟨S56x2x2x16x4096, .bf16⟩
  | .hbm, ⟨70, _⟩ => ⟨S56x2x2x16x4096, .bf16⟩
  | .hbm, ⟨71, _⟩ => ⟨S56x2x32x4096, .bf16⟩
  | .hbm, ⟨72, _⟩ => ⟨S256x1x56x2x1x32, .bf16⟩
  | .hbm, ⟨73, _⟩ => ⟨S256x1x56x2x32, .bf16⟩
  | .hbm, ⟨74, _⟩ => ⟨S256x1x4096, .f32⟩
  | .hbm, ⟨75, _⟩ => ⟨S56x2x1x2x4096, .bf16⟩
  | .hbm, ⟨76, _⟩ => ⟨S56x2x2x4096, .bf16⟩
  | .hbm, ⟨77, _⟩ => ⟨S56x2x32x4096, .bf16⟩
  | .hbm, ⟨78, _⟩ => ⟨S_, .bf16⟩
  | .hbm, ⟨79, _⟩ => ⟨S56x2x32x4096, .bf16⟩
  | .hbm, ⟨80, _⟩ => ⟨S56x2x32x4096, .bf16⟩
  | .hbm, ⟨81, _⟩ => ⟨S56x2x2x16x4096, .bf16⟩
  | .hbm, ⟨82, _⟩ => ⟨S56x2x2x1x4096, .bf16⟩
  | .hbm, ⟨83, _⟩ => ⟨S56x2x2x16x4096, .bf16⟩
  | .hbm, ⟨84, _⟩ => ⟨S56x2x2x16x4096, .bf16⟩
  | .hbm, ⟨85, _⟩ => ⟨S56x2x32x4096, .bf16⟩
  | .hbm, ⟨86, _⟩ => ⟨S256x1x56x2x1x32, .bf16⟩
  | .hbm, ⟨87, _⟩ => ⟨S256x1x56x2x32, .bf16⟩
  | .hbm, ⟨88, _⟩ => ⟨S256x1x4096, .f32⟩
  | .hbm, ⟨89, _⟩ => ⟨S256x1x4096, .f32⟩
  | .hbm, ⟨90, _⟩ => ⟨S56x2x1x2x4096, .bf16⟩
  | .hbm, ⟨91, _⟩ => ⟨S56x2x2x4096, .bf16⟩
  | .hbm, ⟨92, _⟩ => ⟨S56x2x32x4096, .bf16⟩
  | .hbm, ⟨93, _⟩ => ⟨S_, .bf16⟩
  | .hbm, ⟨94, _⟩ => ⟨S56x2x32x4096, .bf16⟩
  | .hbm, ⟨95, _⟩ => ⟨S56x2x32x4096, .bf16⟩
  | .hbm, ⟨96, _⟩ => ⟨S56x2x2x16x4096, .bf16⟩
  | .hbm, ⟨97, _⟩ => ⟨S56x2x2x1x4096, .bf16⟩
  | .hbm, ⟨98, _⟩ => ⟨S56x2x2x16x4096, .bf16⟩
  | .hbm, ⟨99, _⟩ => ⟨S56x2x2x16x4096, .bf16⟩
  | .hbm, ⟨100, _⟩ => ⟨S56x2x32x4096, .bf16⟩
  | .hbm, ⟨101, _⟩ => ⟨S256x1x56x2x1x32, .bf16⟩
  | .hbm, ⟨102, _⟩ => ⟨S256x1x56x2x32, .bf16⟩
  | .hbm, ⟨103, _⟩ => ⟨S256x1x4096, .f32⟩
  | .hbm, ⟨104, _⟩ => ⟨S256x1x4096, .f32⟩
  | .hbm, ⟨105, _⟩ => ⟨S56x2x1x2x4096, .bf16⟩
  | .hbm, ⟨106, _⟩ => ⟨S56x2x2x4096, .bf16⟩
  | .hbm, ⟨107, _⟩ => ⟨S56x2x32x4096, .bf16⟩
  | .hbm, ⟨108, _⟩ => ⟨S_, .bf16⟩
  | .hbm, ⟨109, _⟩ => ⟨S56x2x32x4096, .bf16⟩
  | .hbm, ⟨110, _⟩ => ⟨S56x2x32x4096, .bf16⟩
  | .hbm, ⟨111, _⟩ => ⟨S56x2x2x16x4096, .bf16⟩
  | .hbm, ⟨112, _⟩ => ⟨S56x2x2x1x4096, .bf16⟩
  | .hbm, ⟨113, _⟩ => ⟨S56x2x2x16x4096, .bf16⟩
  | .hbm, ⟨114, _⟩ => ⟨S56x2x2x16x4096, .bf16⟩
  | .hbm, ⟨115, _⟩ => ⟨S56x2x32x4096, .bf16⟩
  | .hbm, ⟨116, _⟩ => ⟨S256x1x56x2x1x32, .bf16⟩
  | .hbm, ⟨117, _⟩ => ⟨S256x1x56x2x32, .bf16⟩
  | .hbm, ⟨118, _⟩ => ⟨S256x1x4096, .f32⟩
  | .hbm, ⟨119, _⟩ => ⟨S256x1x4096, .f32⟩
  | .hbm, ⟨120, _⟩ => ⟨S256x1x4096, .bf16⟩
  | .hbm, ⟨121, _⟩ => ⟨S256x4096, .bf16⟩
  | .local _ .vmem, ⟨0, _⟩ => ⟨S56x4096, .f16⟩
  | .local _ .vmem, ⟨1, _⟩ => ⟨S56x16x4096, .i8⟩
  | .local _ .vmem, ⟨2, _⟩ => ⟨S56x16x4096, .bf16⟩
  | _, _ => ⟨S256x1x14336, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_c_11 : Ref sig .tc := ⟨.hbm, 50, rfl⟩
abbrev main_v33 : Ref sig .tc := ⟨.hbm, 51, rfl⟩
abbrev main_v34 : Ref sig .tc := ⟨.hbm, 52, rfl⟩
abbrev main_c_12 : Ref sig .tc := ⟨.hbm, 53, rfl⟩
abbrev main_v35 : Ref sig .tc := ⟨.hbm, 54, rfl⟩
abbrev main_v36 : Ref sig .tc := ⟨.hbm, 55, rfl⟩
abbrev main_c_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S56x4096 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x16x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Step.lean ====
/-
  ONE SUPERBLOCK'S STEP OF THE KERNEL, AND FOURTEEN OF THEM. The kernel's body is unrolled over the fourteen superblocks
  of a grid point; each adds the product of 256 columns of the activation with the 256 rows the superblock's planes
  decode to. This file names that step once, at the kernel's own operations, and shows that what the body leaves in the
  accumulator is the step done fourteen times.
-/
module

public import proofs.«01_k».proof.Proof.Gen.KernelIdeal.Value
public import Idealize.ShloMosaic.Lib.Pipeline.ValueKit

@[expose] public section

set_option maxRecDepth 16384

noncomputable section

namespace Cert.KernelIdeal.Total

open Idealize.ShloMosaic Idealize.ShloMosaic.TcCoe Idealize.SL.Sem
open Cert.KernelIdeal Cert.KernelIdeal.Gen Cert.KernelIdeal.Value

variable {F : FTy → Type} [FloatOps F]

/-! ## The decoded words -/

/-- The low plane of a half, four rows to a word. -/
def lowWords (ql : Vec F S1x1x64x512 .i8) : IVec S16x512 32 :=
  bitcast S16x512 32 (shapeCast S64x512 ql shapeCasts_S1x1x64x512_S64x512) bitcasts_S64x512_w8_S16x512_w32
/-- The words of the rows 0 to 31 of the low plane. -/
def loWords (ql : Vec F S1x1x64x512 .i8) : IVec S8x512 32 :=
  extractStridedSlice S8x512 ![0, 0] (lowWords (F := F) ql) slices_S16x512_o0_0_S8x512
/-- The words of the rows 32 to 63 of the low plane. -/
def hiWords (ql : Vec F S1x1x64x512 .i8) : IVec S8x512 32 :=
  extractStridedSlice S8x512 ![8, 0] (lowWords (F := F) ql) slices_S16x512_o8_0_S8x512
/-- The high plane of a half, four rows to a word, the upper bit of each pair inverted. -/
def topWords (qh : Vec F S1x1x32x512 .i8) : IVec S8x512 32 :=
  xori (bitcast S8x512 32 (shapeCast S32x512 qh shapeCasts_S1x1x32x512_S32x512) bitcasts_S32x512_w8_S8x512_w32) (broadcast S8x512 2863311530#32)
/-- The packed codes of field 0, 1, 2 and 3 of a half, four rows to a word. -/
def fieldWords (f : Fin 4) (ql : Vec F S1x1x64x512 .i8) (qh : Vec F S1x1x32x512 .i8) : IVec S8x512 32 :=
  match f with
  | 0 => ori (andi (shli (loWords (F := F) ql) (broadcast S8x512 2#32)) (broadcast S8x512 1010580540#32))
      (andi (shli (topWords (F := F) qh) (broadcast S8x512 6#32)) (broadcast S8x512 3233857728#32))
  | 1 => ori (andi (shli (hiWords (F := F) ql) (broadcast S8x512 2#32)) (broadcast S8x512 1010580540#32))
      (andi (shli (topWords (F := F) qh) (broadcast S8x512 4#32)) (broadcast S8x512 3233857728#32))
  | 2 => ori (andi (shrui (loWords (F := F) ql) (broadcast S8x512 2#32)) (broadcast S8x512 1010580540#32))
      (andi (shli (topWords (F := F) qh) (broadcast S8x512 2#32)) (broadcast S8x512 3233857728#32))
  | 3 => ori (andi (shrui (hiWords (F := F) ql) (broadcast S8x512 2#32)) (broadcast S8x512 1010580540#32))
      (andi (topWords (F := F) qh) (broadcast S8x512 3233857728#32))
/-- The packed codes of a field, one to a byte, as numbers. -/
def fieldCodes (f : Fin 4) (ql : Vec F S1x1x64x512 .i8) (qh : Vec F S1x1x32x512 .i8) : FVec F S32x512 .bf16 :=
  sitofp .bf16 (bitcast S32x512 8 (fieldWords (F := F) f ql qh) bitcasts_S8x512_w32_S32x512_w8)

/-! ## The scales and the weight -/

/-- The sixteen rows of effective scales of a superblock, each a quarter of its value. -/
def quarterScales (sc : Vec F S1x16x512 .i8) (d : Vec F S1x1x512 .f16) : FVec F S16x512 .bf16 :=
  mulf (truncf .bf16 (mulf (broadcastTo S16x512 (extf .f32 (shapeCast S1x512 d shapeCasts_S1x1x512_S1x512) bitsLt_f16_f32) broadcasts_S1x512_S16x512)
      (sitofp .f32 (shapeCast S16x512 sc shapeCasts_S1x16x512_S16x512))) bitsLt_bf16_f32) (broadcast S16x512 (Scalar.ofBits .bf16 0x3E80#16))

/-- The first sixteen rows of a field times row `j` of the scales. -/
def upper (v : FVec F S32x512 .bf16) (e : FVec F S16x512 .bf16) (j : ℕ) (h : S16x512.Slices ![j, 0] S1x512) : FVec F S16x512 .bf16 :=
  mulf (extractStridedSlice S16x512 ![0, 0] v slices_S32x512_o0_0_S16x512) (broadcastTo S16x512 (extractStridedSlice S1x512 ![j, 0] e h) broadcasts_S1x512_S16x512)
/-- The last sixteen rows of a field times row `j` of the scales. -/
def lower (v : FVec F S32x512 .bf16) (e : FVec F S16x512 .bf16) (j : ℕ) (h : S16x512.Slices ![j, 0] S1x512) : FVec F S16x512 .bf16 :=
  mulf (extractStridedSlice S16x512 ![16, 0] v slices_S32x512_o16_0_S16x512) (broadcastTo S16x512 (extractStridedSlice S1x512 ![j, 0] e h) broadcasts_S1x512_S16x512)

/-- The 256 rows of weights from the eight fields and the scales, sixteen rows at a time. -/
def stack (a0 a1 a2 a3 b0 b1 b2 b3 : FVec F S32x512 .bf16) (e : FVec F S16x512 .bf16) : FVec F S256x512 .bf16 :=
  concatenate S256x512 0 [
    ⟨S16x512, upper a0 e 0 slices_S16x512_o0_0_S1x512⟩, ⟨S16x512, lower a0 e 1 slices_S16x512_o1_0_S1x512⟩,
    ⟨S16x512, upper a1 e 2 slices_S16x512_o2_0_S1x512⟩, ⟨S16x512, lower a1 e 3 slices_S16x512_o3_0_S1x512⟩,
    ⟨S16x512, upper a2 e 4 slices_S16x512_o4_0_S1x512⟩, ⟨S16x512, lower a2 e 5 slices_S16x512_o5_0_S1x512⟩,
    ⟨S16x512, upper a3 e 6 slices_S16x512_o6_0_S1x512⟩, ⟨S16x512, lower a3 e 7 slices_S16x512_o7_0_S1x512⟩,
    ⟨S16x512, upper b0 e 8 slices_S16x512_o8_0_S1x512⟩, ⟨S16x512, lower b0 e 9 slices_S16x512_o9_0_S1x512⟩,
    ⟨S16x512, upper b1 e 10 slices_S16x512_o10_0_S1x512⟩, ⟨S16x512, lower b1 e 11 slices_S16x512_o11_0_S1x512⟩,
    ⟨S16x512, upper b2 e 12 slices_S16x512_o12_0_S1x512⟩, ⟨S16x512, lower b2 e 13 slices_S16x512_o13_0_S1x512⟩,
    ⟨S16x512, upper b3 e 14 slices_S16x512_o14_0_S1x512⟩, ⟨S16x512, lower b3 e 15 slices_S16x512_o15_0_S1x512⟩]
    concatenates_S16x512_S16x512_S16x512_S16x512_S16x512_S16x512_S16x512_S16x512_S16x512_S16x512_S16x512_S16x512_S16x512_S16x512_S16x512_S16x512_S256x512_d0

/-- The product of 256 columns of the activation with a superblock's weights, added to `acc`. -/
def addProduct (w : FVec F S256x512 .bf16) (x : Vec F S256x256 .bf16) (acc : Vec F S256x512 .f32) : Vec F S256x512 .f32 :=
  shapeCast S256x512 (addf acc (matmul dot_S256x256_S256x512_S256x512_1_0_0_1_n_n none (shapeCast S256x256 x shapeCasts_S256x256_S256x256) w
    (constant S256x512 .f32 0x00000000#32))) shapeCasts_S256x512_S256x512

/-! ## The step at superblock `s` of a point's blocks -/

/-- Half `h` of superblock `s` of the low plane. -/
def qlAt (x1 : Vec F S14x2x64x512 .i8) (s : Fin 14) (h : Fin 2) : Vec F S1x1x64x512 .i8 :=
  View.ld x1 (Rect.unit ![s.val, h.val, 0, 0] ![1, 1, 64, 512] fun a => by
    match a with
    | ⟨0, _⟩ => show s.val + 1 ≤ 14; omega
    | ⟨1, _⟩ => show h.val + 1 ≤ 2; omega
    | ⟨2, _⟩ => show 0 + 64 ≤ 64; omega
    | ⟨3, _⟩ => show 0 + 512 ≤ 512; omega)
/-- Half `h` of superblock `s` of the high plane. -/
def qhAt (x2 : Vec F S14x2x32x512 .i8) (s : Fin 14) (h : Fin 2) : Vec F S1x1x32x512 .i8 :=
  View.ld x2 (Rect.unit ![s.val, h.val, 0, 0] ![1, 1, 32, 512] fun a => by
    match a with
    | ⟨0, _⟩ => show s.val + 1 ≤ 14; omega
    | ⟨1, _⟩ => show h.val + 1 ≤ 2; omega
    | ⟨2, _⟩ => show 0 + 32 ≤ 32; omega
    | ⟨3, _⟩ => show 0 + 512 ≤ 512; omega)
/-- The sub-block scales of superblock `s`. -/
def scAt (x3 : Vec F S14x16x512 .i8) (s : Fin 14) : Vec F S1x16x512 .i8 :=
  View.ld x3 (Rect.unit ![s.val, 0, 0] ![1, 16, 512] fun a => by
    match a with
    | ⟨0, _⟩ => show s.val + 1 ≤ 14; omega
    | ⟨1, _⟩ => show 0 + 16 ≤ 16; omega
    | ⟨2, _⟩ => show 0 + 512 ≤ 512; omega)
/-- The scale of superblock `s`. -/
def dAt (x4 : Vec F S14x1x512 .f16) (s : Fin 14) : Vec F S1x1x512 .f16 :=
  View.ld x4 (Rect.unit ![s.val, 0, 0] ![1, 1, 512] fun a => by
    match a with
    | ⟨0, _⟩ => show s.val + 1 ≤ 14; omega
    | ⟨1, _⟩ => show 0 + 1 ≤ 1; omega
    | ⟨2, _⟩ => show 0 + 512 ≤ 512; omega)
/-- The 256 columns of the activation that meet superblock `s`. -/
def xAt (x0 : Vec F S256x3584 .bf16) (s : Fin 14) : Vec F S256x256 .bf16 :=
  View.ld x0 (Rect.unit ![0, s.val * 256] ![256, 256] fun a => by
    match a with
    | ⟨0, _⟩ => show 0 + 256 ≤ 256; omega
    | ⟨1, _⟩ => show s.val * 256 + 256 ≤ 3584; omega)

/-- The weights of superblock `s`. -/
def weights (x1 : Vec F S14x2x64x512 .i8) (x2 : Vec F S14x2x32x512 .i8) (x3 : Vec F S14x16x512 .i8) (x4 : Vec F S14x1x512 .f16) (s : Fin 14) : FVec F S256x512 .bf16 :=
  stack (fieldCodes 0 (qlAt x1 s 0) (qhAt x2 s 0)) (fieldCodes 1 (qlAt x1 s 0) (qhAt x2 s 0)) (fieldCodes 2 (qlAt x1 s 0) (qhAt x2 s 0)) (fieldCodes 3 (qlAt x1 s 0) (qhAt x2 s 0))
    (fieldCodes 0 (qlAt x1 s 1) (qhAt x2 s 1)) (fieldCodes 1 (qlAt x1 s 1) (qhAt x2 s 1)) (fieldCodes 2 (qlAt x1 s 1) (qhAt x2 s 1)) (fieldCodes 3 (qlAt x1 s 1) (qhAt x2 s 1))
    (quarterScales (scAt x3 s) (dAt x4 s))

/-- The accumulator after the superblocks below `n`, from `acc`. -/
def upTo (x0 : Vec F S256x3584 .bf16) (x1 : Vec F S14x2x64x512 .i8) (x2 : Vec F S14x2x32x512 .i8) (x3 : Vec F S14x16x512 .i8) (x4 : Vec F S14x1x512 .f16)
    (acc : Vec F S256x512 .f32) : (n : ℕ) → n ≤ 14 → Vec F S256x512 .f32
  | 0, _ => acc
  | n + 1, h => addProduct (weights x1 x2 x3 x4 ⟨n, h⟩) (xAt x0 ⟨n, h⟩) (upTo x0 x1 x2 x3 x4 acc n (Nat.le_of_succ_le h))

/-! ## What the body leaves -/

section Body
variable (c : Dev nD) (i : grid0.Coords) (arg2 : Memref sig .tc .vmem S256x3584 .bf16) (harg2 : arg2.IsWhole) (arg3 : Memref sig .tc .vmem S14x2x64x512 .i8) (harg3 : arg3.IsWhole)
  (arg4 : Memref sig .tc .vmem S14x2x32x512 .i8) (harg4 : arg4.IsWhole) (arg5 : Memref sig .tc .vmem S14x16x512 .i8) (harg5 : arg5.IsWhole) (arg6 : Memref sig .tc .vmem S14x1x512 .f16) (harg6 : arg6.IsWhole)
  (arg7 : Memref sig .tc .vmem S256x512 .bf16) (harg7 : arg7.IsWhole) (arg8 : Memref sig .tc .vmem S256x512 .f32) (harg8 : arg8.IsWhole)
  (x0 : Vec F S256x3584 .bf16) (x1 : Vec F S14x2x64x512 .i8) (x2 : Vec F S14x2x32x512 .i8) (x3 : Vec F S14x16x512 .i8) (x4 : Vec F S14x1x512 .f16) (xs0 : Vec F S256x512 .f32)

set_option maxHeartbeats 2000000 in
/-- The first point of a run of four: the zero fill, through the fourteen steps. -/
theorem scratch_A (hc0 : cond0_0 i) (hc1 : ¬cond0_1 i) :
    sout0_A_0 c i arg2 harg2 arg3 harg3 arg4 harg4 arg5 harg5 arg6 harg6 arg7 harg7 arg8 harg8 hc0 hc1 x0 x1 x2 x3 x4 = upTo x0 x1 x2 x3 x4 k0_pay8 14 le_rfl := by
  frame_out
  rw [harg3.read_unread, harg4.read_unread, harg5.read_unread, harg6.read_unread]
  rfl

set_option maxHeartbeats 2000000 in
/-- A point in the middle of a run of four: the accumulator it found, through the fourteen steps. -/
theorem scratch_B (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0 = upTo x0 x1 x2 x3 x4 xs0 14 le_rfl := by
  frame_out
  rw [harg3.read_unread, harg4.read_unread, harg5.read_unread, harg6.read_unread]
  rfl

set_option maxHeartbeats 2000000 in
/-- The last point of a run of four leaves its accumulator the same way. -/
theorem scratch_C (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0 = upTo x0 x1 x2 x3 x4 xs0 14 le_rfl := by
  frame_out
  rw [harg3.read_unread, harg4.read_unread, harg5.read_unread, harg6.read_unread]
  rfl

set_option maxHeartbeats 2000000 in
/-- And it writes that accumulator, narrowed, to the output's block. -/
theorem out_C (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0 = k0_pay7 (upTo x0 x1 x2 x3 x4 xs0 14 le_rfl) := by
  frame_out
  rw [harg3.read_unread, harg4.read_unread, harg5.read_unread, harg6.read_unread]
  rfl

end Body

end Cert.KernelIdeal.Total

end
-- ==== Proof.Bits.lean ====
/-
  THE CODES, BYTE BY BYTE. One six-bit code is four bits of a byte `a` of the low plane and two bits of a byte `q` of
  the high plane. This file says which number the code is, that the eight bits the kernel packs read as four times
  that number less 32, and that the word the reference assembles reads as that number.
-/
module

public import Idealize.ShloMosaic.Lib.BitcastFour
public import Idealize.ShloMosaic.Lib.ValueIdx
public import Idealize.ShloMosaic.Lib.Pointwise

@[expose] public section

noncomputable section

namespace Cert.Codes

open Idealize.ShloMosaic

/-- THE CODE of field `f`: the low four bits of `a` for the fields 0 and 1 and its high four bits for the fields 2 and
    3, with bits `2f` and `2f + 1` of `q` above them. -/
def code (f : Fin 4) (a q : BitVec 8) : ℕ := a.toNat / 16 ^ (f.val / 2) % 16 + 16 * (q.toNat / 4 ^ f.val % 4)

/-- THE EIGHT BITS THE KERNEL PACKS for field `f`: the four bits moved to bits 2..5, the two bits of `q` with the upper
    one inverted at bits 6 and 7. -/
def packed (f : Fin 4) (a q : BitVec 8) : BitVec 8 :=
  match f with
  | 0 => ((a <<< 2) &&& 0x3C#8) ||| (((q ^^^ 0xAA#8) <<< 6) &&& 0xC0#8)
  | 1 => ((a <<< 2) &&& 0x3C#8) ||| (((q ^^^ 0xAA#8) <<< 4) &&& 0xC0#8)
  | 2 => ((a >>> 2) &&& 0x3C#8) ||| (((q ^^^ 0xAA#8) <<< 2) &&& 0xC0#8)
  | 3 => ((a >>> 2) &&& 0x3C#8) ||| ((q ^^^ 0xAA#8) &&& 0xC0#8)

/-- THE WORD THE REFERENCE ASSEMBLES for field `f` from the two bytes widened with zeros. -/
def word (f : Fin 4) (a q : BitVec 8) : BitVec 32 :=
  match f with
  | 0 => (a.setWidth 32 &&& 15#32) ||| ((q.setWidth 32 &&& 3#32) <<< 4)
  | 1 => (a.setWidth 32 &&& 15#32) ||| (((q.setWidth 32).sshiftRight 2 &&& 3#32) <<< 4)
  | 2 => (a.setWidth 32).sshiftRight 4 ||| (((q.setWidth 32).sshiftRight 4 &&& 3#32) <<< 4)
  | 3 => (a.setWidth 32).sshiftRight 4 ||| (((q.setWidth 32).sshiftRight 6 &&& 3#32) <<< 4)

/-- The four bits of `a` where the kernel packs them. -/
def packedLow (f : Fin 4) (a : BitVec 8) : BitVec 8 := (if f.val < 2 then a <<< 2 else a >>> 2) &&& 0x3C#8
/-- The two bits of `q` where the kernel packs them. -/
def packedHigh (f : Fin 4) (q : BitVec 8) : BitVec 8 := ((q ^^^ 0xAA#8) <<< (6 - 2 * f.val)) &&& 0xC0#8
/-- The four bits of `a` in the reference's word. -/
def wordLow (f : Fin 4) (a : BitVec 8) : BitVec 32 := if f.val < 2 then a.setWidth 32 &&& 15#32 else (a.setWidth 32).sshiftRight 4
/-- The two bits of `q` in the reference's word. -/
def wordHigh (f : Fin 4) (q : BitVec 8) : BitVec 32 := ((q.setWidth 32).sshiftRight (2 * f.val) &&& 3#32) <<< 4

/-- A statement about all bytes, from the same statement about all numbers below 256. -/
theorem forall_byte {P : BitVec 8 → Prop} (h : ∀ a : Fin 256, P (BitVec.ofFin a)) (a : BitVec 8) : P a := h a.toFin

/-- The four bits of `a`, as a number, where the kernel packs them. -/
theorem packedLow_eq (f : Fin 4) (a : BitVec 8) : packedLow f a = BitVec.ofNat 8 (4 * (a.toNat / 16 ^ (f.val / 2) % 16)) := by
  revert f
  exact forall_byte (P := fun a => ∀ f : Fin 4, packedLow f a = BitVec.ofNat 8 (4 * (a.toNat / 16 ^ (f.val / 2) % 16))) (by decide +kernel) a

/-- The two bits of `q`, the upper one inverted, as a number, where the kernel packs them. -/
theorem packedHigh_eq (f : Fin 4) (q : BitVec 8) : packedHigh f q = BitVec.ofNat 8 (64 * ((q.toNat / 4 ^ f.val % 4) ^^^ 2)) := by
  revert f
  exact forall_byte (P := fun q => ∀ f : Fin 4, packedHigh f q = BitVec.ofNat 8 (64 * ((q.toNat / 4 ^ f.val % 4) ^^^ 2))) (by decide +kernel) q

/-- The four bits of `a` in the reference's word, as a number. -/
theorem wordLow_eq (f : Fin 4) (a : BitVec 8) : wordLow f a = BitVec.ofNat 32 (a.toNat / 16 ^ (f.val / 2) % 16) := by
  revert f
  exact forall_byte (P := fun a => ∀ f : Fin 4, wordLow f a = BitVec.ofNat 32 (a.toNat / 16 ^ (f.val / 2) % 16)) (by decide +kernel) a

/-- The two bits of `q` in the reference's word, as a number. -/
theorem wordHigh_eq (f : Fin 4) (q : BitVec 8) : wordHigh f q = BitVec.ofNat 32 (16 * (q.toNat / 4 ^ f.val % 4)) := by
  revert f
  exact forall_byte (P := fun q => ∀ f : Fin 4, wordHigh f q = BitVec.ofNat 32 (16 * (q.toNat / 4 ^ f.val % 4))) (by decide +kernel) q

/-- Four bits at 2..5 and two bits, the upper one inverted, at 6 and 7 read with the sign as four times (number − 32). -/
theorem join_packed : ∀ n : Fin 16, ∀ t : Fin 4,
    (BitVec.ofNat 8 (4 * n.val) ||| BitVec.ofNat 8 (64 * (t.val ^^^ 2))).toInt = 4 * (((n.val + 16 * t.val : ℕ) : ℤ) - 32) := by decide +kernel

/-- Four bits at 0..3 and two bits at 4 and 5 of a word read as the number. -/
theorem join_word : ∀ n : Fin 16, ∀ t : Fin 4,
    (BitVec.ofNat 32 n.val ||| BitVec.ofNat 32 (16 * t.val)).toInt = ((n.val + 16 * t.val : ℕ) : ℤ) := by decide +kernel

/-- The packed byte is its four bits of `a` joined with its two bits of `q`. -/
theorem packed_split (f : Fin 4) (a q : BitVec 8) : packed f a q = packedLow f a ||| packedHigh f q := by
  match f with
  | 0 => rfl
  | 1 => rfl
  | 2 => rfl
  | 3 => simp [packed, packedLow, packedHigh]

/-- The reference's word is its four bits of `a` joined with its two bits of `q`. -/
theorem word_split (f : Fin 4) (a q : BitVec 8) : word f a q = wordLow f a ||| wordHigh f q := by
  match f with
  | 0 => simp [word, wordLow, wordHigh]
  | 1 => rfl
  | 2 => rfl
  | 3 => rfl

/-- The packed byte, read with its sign, is four times (code − 32). -/
theorem packed_toInt (f : Fin 4) (a q : BitVec 8) : (packed f a q).toInt = 4 * ((code f a q : ℤ) - 32) := by
  rw [packed_split, packedLow_eq, packedHigh_eq]
  exact join_packed ⟨_, Nat.mod_lt _ (by decide)⟩ ⟨_, Nat.mod_lt _ (by decide)⟩

/-- The reference's word, read with its sign, is the code. -/
theorem word_toInt (f : Fin 4) (a q : BitVec 8) : (word f a q).toInt = (code f a q : ℤ) := by
  rw [word_split, wordLow_eq, wordHigh_eq]
  exact join_word ⟨_, Nat.mod_lt _ (by decide)⟩ ⟨_, Nat.mod_lt _ (by decide)⟩

/-! ## The weight of a code -/

/-- The byte of the low plane that field `f` reads for row `r` of the field. -/
def lowRow (f : Fin 4) (r : Fin 32) : Fin 64 := ⟨32 * (f.val % 2) + r.val, by omega⟩

/-- THE WEIGHT of a code: the code less 32, times the superblock's scale times the sub-block's. -/
def weight (f : Fin 4) (a q : BitVec 8) (d : EReal) (sc : BitVec 8) : EReal :=
  (((((code f a q : ℕ) : ℤ) - 32 : ℤ) : ℝ) : EReal) * (d * ((sc.toInt : ℝ) : EReal))

/-! ## Four codes at a time, in a word -/

/-- The two ways of naming an entry of a matrix by its coordinates agree. -/
theorem ix2_eq {R n : Nat} (a : Fin R) (l : Fin n) : ix2 a l = ValueIdx.ix2 a l := by
  funext c
  match c with
  | ⟨0, _⟩ => rfl
  | ⟨1, _⟩ => rfl

/-- THE WORD THE KERNEL COMPUTES for field `f` from a word of the low plane and a word of the high plane. -/
def fieldWord (f : Fin 4) (L T : BitVec 32) : BitVec 32 :=
  match f with
  | 0 => IntOp.ori (IntOp.andi (IntOp.shli .vector L 2#32) 1010580540#32) (IntOp.andi (IntOp.shli .vector T 6#32) 3233857728#32)
  | 1 => IntOp.ori (IntOp.andi (IntOp.shli .vector L 2#32) 1010580540#32) (IntOp.andi (IntOp.shli .vector T 4#32) 3233857728#32)
  | 2 => IntOp.ori (IntOp.andi (IntOp.shrui .vector L 2#32) 1010580540#32) (IntOp.andi (IntOp.shli .vector T 2#32) 3233857728#32)
  | 3 => IntOp.ori (IntOp.andi (IntOp.shrui .vector L 2#32) 1010580540#32) (IntOp.andi T 3233857728#32)

/-- The masks keep the four bytes of a word apart: byte `k` of the word the kernel computes is what the same operations
    make of byte `k` of the two words. -/
theorem fieldWord_byte (f k : Fin 4) (L T : BitVec 32) (a q : BitVec 8) (hL : L.extractLsb' (8 * k.val) 8 = a)
    (hT : T.extractLsb' (8 * k.val) 8 = q ^^^ 0xAA#8) : (fieldWord f L T).extractLsb' (8 * k.val) 8 = packed f a q := by
  subst hL
  have e : packed f (L.extractLsb' (8 * k.val) 8) q = packed f (L.extractLsb' (8 * k.val) 8) (T.extractLsb' (8 * k.val) 8 ^^^ 0xAA#8) := by
    rw [hT, BitVec.xor_assoc, BitVec.xor_self, BitVec.xor_zero]
  rw [e]
  apply BitVec.eq_of_getLsbD_eq
  intro i hi
  fin_cases f <;> fin_cases k <;> interval_cases i <;>
    simp [fieldWord, packed, IntOp.ori, IntOp.andi, IntOp.shli, IntOp.shrui, BitVec.getLsbD_extractLsb']

/-- Four rows of bytes read as one row of words: byte `k` of the word at row `a` is row `4a + k`. -/
theorem bitcast_8_32_byte {R r n : Nat} (x : (⟨2, ![R, n]⟩ : Shape).Idx → BitVec 8)
    (h : (⟨2, ![R, n]⟩ : Shape).Bitcasts 8 ⟨2, ![r, n]⟩ 32) (a : Fin r) (l : Fin n) (k : Fin 4) (p : Fin R)
    (hp : p.val = 4 * a.val + k.val) : (bitcast ⟨2, ![r, n]⟩ 32 x h (ix2 a l)).extractLsb' (8 * k.val) 8 = x (ix2 p l) := by
  rw [ix2_eq, ix2_eq]
  apply BitVec.eq_of_getLsbD_eq
  intro i hi
  rw [BitVec.getLsbD_extractLsb', bitcast_8_32_getLsbD_ix2 x h a l (8 * k.val + i) (by omega) p (by omega)]
  simp only [hi, decide_true, Bool.true_and]
  congr 1; omega

/-- One row of words read as four rows of bytes: row `p` is byte `p % 4` of the word at row `p / 4`. -/
theorem bitcast_32_8_byte {R r n : Nat} (x : (⟨2, ![r, n]⟩ : Shape).Idx → BitVec 32)
    (h : (⟨2, ![r, n]⟩ : Shape).Bitcasts 32 ⟨2, ![R, n]⟩ 8) (p : Fin R) (l : Fin n) (a : Fin r) (k : Fin 4)
    (hp : p.val = 4 * a.val + k.val) : bitcast ⟨2, ![R, n]⟩ 8 x h (ix2 p l) = (x (ix2 a l)).extractLsb' (8 * k.val) 8 := by
  rw [ix2_eq, ix2_eq]
  apply BitVec.eq_of_getLsbD_eq
  intro i hi
  have hrow : (⟨2, ![R, n]⟩ : Shape).row (ValueIdx.ix2 p l) = p.val := rfl
  rw [bitcast_getLsbD x h _ i hi (by decide), BitVec.getLsbD_extractLsb']
  simp only [hi, decide_true, Bool.true_and]
  have e1 : ((⟨2, ![R, n]⟩ : Shape).row (ValueIdx.ix2 p l) * 8 + i) / 32 = a.val := by rw [hrow]; omega
  have e2 : ((⟨2, ![R, n]⟩ : Shape).row (ValueIdx.ix2 p l) * 8 + i) % 32 = 8 * k.val + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Codes

end
-- ==== Proof.Weights.lean ====
/-
  THE STEP OVER THE EXTENDED REALS. Every conversion is exact there, so a field is four times (code − 32), the scales
  are a quarter of `d · sc`, and the weight of a row is (code − 32) · (d · sc). A step adds, at each entry, the sum of the
  products of 256 activations with 256 such weights; fourteen steps add fourteen such sums.
-/
module

public import proofs.«01_k».proof.Proof.Step
public import proofs.«01_k».proof.Proof.Bits
public import Idealize.ShloMosaic.Lib.Pointwise

@[expose] public section

set_option maxRecDepth 16384

noncomputable section

namespace Cert.KernelIdeal.Total

open Idealize.ShloMosaic Idealize.ShloMosaic.TcCoe Idealize.SL.Sem
open Cert.KernelIdeal Cert.KernelIdeal.Gen Cert.KernelIdeal.Value Cert.Codes
open scoped BigOperators

/-! ## Fields -/

/-- Byte `k` of word row `a` of the rows 0 to 31 of the low plane is its row `4a + k`. -/
theorem loWords_byte (ql : Vec Ideal S1x1x64x512 .i8) (a : Fin 8) (k : Fin 4) (o : Fin 512) :
    (loWords (F := Ideal) ql (ix2 a o)).extractLsb' (8 * k.val) 8 = ql (ix4 (0 : Fin 1) (0 : Fin 1) (⟨4 * a.val + k.val, by omega⟩ : Fin 64) o) := by
  have e : loWords (F := Ideal) ql (ix2 a o) = lowWords (F := Ideal) ql (ix2 (⟨a.val, by omega⟩ : Fin 16) o) := by
    pointwise [loWords]
  rw [e]
  unfold lowWords
  rw [bitcast_8_32_byte _ _ _ _ k ⟨4 * a.val + k.val, by omega⟩ (by show 4 * a.val + k.val = _; rfl)]
  pointwise

/-- Byte `k` of word row `a` of the rows 32 to 63 of the low plane is its row `32 + 4a + k`. -/
theorem hiWords_byte (ql : Vec Ideal S1x1x64x512 .i8) (a : Fin 8) (k : Fin 4) (o : Fin 512) :
    (hiWords (F := Ideal) ql (ix2 a o)).extractLsb' (8 * k.val) 8 = ql (ix4 (0 : Fin 1) (0 : Fin 1) (⟨32 + (4 * a.val + k.val), by omega⟩ : Fin 64) o) := by
  have e : hiWords (F := Ideal) ql (ix2 a o) = lowWords (F := Ideal) ql (ix2 (⟨8 + a.val, by omega⟩ : Fin 16) o) := by
    pointwise [hiWords]
  rw [e]
  unfold lowWords
  rw [bitcast_8_32_byte _ _ _ _ k ⟨32 + (4 * a.val + k.val), by omega⟩ (by show 32 + (4 * a.val + k.val) = 4 * (8 + a.val) + k.val; omega)]
  pointwise

/-- Byte `k` of word row `a` of the high plane is its row `4a + k`, the upper bit of each pair inverted. -/
theorem topWords_byte (qh : Vec Ideal S1x1x32x512 .i8) (a : Fin 8) (k : Fin 4) (o : Fin 512) :
    (topWords (F := Ideal) qh (ix2 a o)).extractLsb' (8 * k.val) 8 = (qh (ix4 (0 : Fin 1) (0 : Fin 1) (⟨4 * a.val + k.val, by omega⟩ : Fin 32) o)) ^^^ 0xAA#8 := by
  have e : topWords (F := Ideal) qh (ix2 a o) = bitcast S8x512 32 (shapeCast S32x512 qh shapeCasts_S1x1x32x512_S32x512) bitcasts_S32x512_w8_S8x512_w32 (ix2 a o) ^^^ 2863311530#32 := rfl
  have b : (bitcast S8x512 32 (shapeCast S32x512 qh shapeCasts_S1x1x32x512_S32x512) bitcasts_S32x512_w8_S8x512_w32 (ix2 a o)).extractLsb' (8 * k.val) 8
      = qh (ix4 (0 : Fin 1) (0 : Fin 1) (⟨4 * a.val + k.val, by omega⟩ : Fin 32) o) := by
    rw [bitcast_8_32_byte _ _ _ _ k ⟨4 * a.val + k.val, by omega⟩ rfl]
    pointwise
  have c : (2863311530#32).extractLsb' (8 * k.val) 8 = 0xAA#8 := by
    clear e b
    revert k; decide
  rw [e, BitVec.extractLsb'_xor, b, c]

/-- Row `r` of field `f` is four times (code − 32) of the two bytes that hold it. -/
theorem fieldCodes_apply (f : Fin 4) (ql : Vec Ideal S1x1x64x512 .i8) (qh : Vec Ideal S1x1x32x512 .i8) (r : Fin 32) (o : Fin 512) :
    fieldCodes (F := Ideal) f ql qh (ix2 r o)
      = (((4 * ((code f (ql (ix4 (0 : Fin 1) (0 : Fin 1) (lowRow f r) o)) (qh (ix4 (0 : Fin 1) (0 : Fin 1) r o)) : ℤ) - 32) : ℤ) : ℝ) : EReal) := by
  have hr : 4 * (r.val / 4) + r.val % 4 = r.val := by omega
  have hq : (⟨4 * (r.val / 4) + r.val % 4, by omega⟩ : Fin 32) = r := Fin.ext hr
  have hT := topWords_byte qh ⟨r.val / 4, by omega⟩ ⟨r.val % 4, by omega⟩ o
  have hlo := loWords_byte ql ⟨r.val / 4, by omega⟩ ⟨r.val % 4, by omega⟩ o
  have hhi := hiWords_byte ql ⟨r.val / 4, by omega⟩ ⟨r.val % 4, by omega⟩ o
  have el : (⟨4 * (r.val / 4) + r.val % 4, by omega⟩ : Fin 64) = ⟨32 * 0 + r.val, by omega⟩ := Fin.ext (by show 4 * (r.val / 4) + r.val % 4 = 32 * 0 + r.val; omega)
  have eh : (⟨32 + (4 * (r.val / 4) + r.val % 4), by omega⟩ : Fin 64) = ⟨32 * 1 + r.val, by omega⟩ := Fin.ext (by show 32 + (4 * (r.val / 4) + r.val % 4) = 32 * 1 + r.val; omega)
  simp only [hq] at hT
  simp only [el] at hlo
  simp only [eh] at hhi
  have key : bitcast S32x512 8 (fieldWords (F := Ideal) f ql qh) bitcasts_S8x512_w32_S32x512_w8 (ix2 r o)
      = packed f (ql (ix4 (0 : Fin 1) (0 : Fin 1) (lowRow f r) o)) (qh (ix4 (0 : Fin 1) (0 : Fin 1) r o)) := by
    rw [bitcast_32_8_byte _ _ r o ⟨r.val / 4, by omega⟩ ⟨r.val % 4, by omega⟩ hr.symm]
    match f with
    | 0 => exact fieldWord_byte 0 _ _ _ _ _ hlo hT
    | 1 => exact fieldWord_byte 1 _ _ _ _ _ hhi hT
    | 2 => exact fieldWord_byte 2 _ _ _ _ _ hlo hT
    | 3 => exact fieldWord_byte 3 _ _ _ _ _ hhi hT
  rw [← packed_toInt, ← key]
  rfl

/-! ## Scales -/

/-- Row `j` of the scales is a quarter of `d · sc`. -/
theorem quarterScales_apply (sc : Vec Ideal S1x16x512 .i8) (d : Vec Ideal S1x1x512 .f16) (j : Fin 16) (o : Fin 512) :
    quarterScales (F := Ideal) sc d (ix2 j o)
      = d (ix3 (0 : Fin 1) (0 : Fin 1) o) * (((sc (ix3 (0 : Fin 1) j o)).toInt : ℝ) : EReal) * Scalar.ofBits (F := Ideal) .bf16 0x3E80#16 := by
  pointwise [quarterScales]
  rfl

/-- The constant is a quarter. -/
theorem quarter : Scalar.ofBits (F := Ideal) .bf16 0x3E80#16 = (((1 / 4 : ℝ)) : EReal) := by
  show Ideal.ofBits .bf16 0x3E80#16 = _
  simp [Ideal.ofBits, Ideal.ieee, -EReal.coe_mul]
  norm_num

/-- The constant undoes the factor four of the packed codes. -/
theorem four_mul_quarter (q : ℤ) (e : EReal) :
    (((4 * q : ℤ) : ℝ) : EReal) * (e * Scalar.ofBits (F := Ideal) .bf16 0x3E80#16) = (((q : ℤ) : ℝ) : EReal) * e := by
  rw [quarter, Int.cast_mul, EReal.coe_mul]
  have h : ((((4 : ℤ) : ℝ) : EReal)) * (((1 / 4 : ℝ)) : EReal) = 1 := by
    rw [← EReal.coe_mul]; norm_num
  calc _ = ((((4 : ℤ) : ℝ) : EReal) * (((1 / 4 : ℝ)) : EReal)) * ((((q : ℤ) : ℝ) : EReal) * e) := by ac_rfl
    _ = _ := by rw [h, one_mul]

/-! ## The weight -/

/-- Sixteen rows of the weights: half of a field times one row of the scales. -/
def piece (v : Fin 8 → FVec Ideal S32x512 .bf16) (e : FVec Ideal S16x512 .bf16) (j : Fin 16) : FVec Ideal S16x512 .bf16 :=
  mulf (extractStridedSlice S16x512 ![16 * (j.val % 2), 0] (v ⟨j.val / 2, by omega⟩) (by revert j; decide))
    (broadcastTo S16x512 (extractStridedSlice S1x512 ![j.val, 0] e (by revert j; decide)) broadcasts_S1x512_S16x512)

theorem piece_apply (v : Fin 8 → FVec Ideal S32x512 .bf16) (e : FVec Ideal S16x512 .bf16) (j r : Fin 16) (o : Fin 512) :
    piece v e j (ix2 r o) = v ⟨j.val / 2, by omega⟩ (ix2 (⟨16 * (j.val % 2) + r.val, by omega⟩ : Fin 32) o) * e (ix2 j o) := by
  pointwise [piece]

/-- The field that row `l` of a superblock belongs to. -/
def fieldOf (l : Fin 256) : Fin 4 := ⟨l.val / 32 % 4, by omega⟩
/-- The half of the superblock that row `l` belongs to. -/
def halfOf (l : Fin 256) : Fin 2 := ⟨l.val / 128, by omega⟩
/-- The row of its field that row `l` is. -/
def rowOf (l : Fin 256) : Fin 32 := ⟨l.val % 32, by omega⟩
/-- The sub-block that row `l` belongs to. -/
def subOf (l : Fin 256) : Fin 16 := ⟨l.val / 16, by omega⟩

/-- The weights are sixteen such pieces, in order. -/
theorem weights_eq (x1 : Vec Ideal S14x2x64x512 .i8) (x2 : Vec Ideal S14x2x32x512 .i8) (x3 : Vec Ideal S14x16x512 .i8) (x4 : Vec Ideal S14x1x512 .f16) (s : Fin 14) :
    weights (F := Ideal) x1 x2 x3 x4 s
      = concatenate S256x512 0 (List.ofFn fun j : Fin 16 => (⟨S16x512, piece
          (fun b => fieldCodes (F := Ideal) ⟨b.val % 4, by omega⟩ (qlAt x1 s ⟨b.val / 4, by omega⟩) (qhAt x2 s ⟨b.val / 4, by omega⟩))
          (quarterScales (scAt x3 s) (dAt x4 s)) j⟩ : (s : Shape) × (s.Idx → EReal)))
        concatenates_S16x512_S16x512_S16x512_S16x512_S16x512_S16x512_S16x512_S16x512_S16x512_S16x512_S16x512_S16x512_S16x512_S16x512_S16x512_S16x512_S256x512_d0 := rfl

theorem weights_apply (x1 : Vec Ideal S14x2x64x512 .i8) (x2 : Vec Ideal S14x2x32x512 .i8) (x3 : Vec Ideal S14x16x512 .i8) (x4 : Vec Ideal S14x1x512 .f16)
    (s : Fin 14) (l : Fin 256) (o : Fin 512) :
    weights (F := Ideal) x1 x2 x3 x4 s (ix2 l o)
      = weight (fieldOf l) (x1 (ix4 s (halfOf l) (lowRow (fieldOf l) (rowOf l)) o)) (x2 (ix4 s (halfOf l) (rowOf l) o))
          (x4 (ix3 s (0 : Fin 1) o)) (x3 (ix3 s (subOf l) o)) := by
  refine (congrFun (weights_eq x1 x2 x3 x4 s) (ix2 l o)).trans ((concatenate_ofFn_apply (s₁ := S16x512) (t := S256x512) 0 _ _ rfl 16 rfl (ix2 l o) (subOf l) rfl
    (ix2 (⟨l.val % 16, by omega⟩ : Fin 16) o) rfl
    (fun b hb => by match b with | ⟨0, _⟩ => exact absurd rfl hb | ⟨1, _⟩ => rfl)).trans ?_)
  rw [piece_apply, quarterScales_apply, fieldCodes_apply, four_mul_quarter]
  have e1 : (⟨16 * ((subOf l).val % 2) + l.val % 16, by omega⟩ : Fin 32) = rowOf l := Fin.ext (by show 16 * (l.val / 16 % 2) + l.val % 16 = l.val % 32; omega)
  have e2 : (⟨(subOf l).val / 2 % 4, by omega⟩ : Fin 4) = fieldOf l := Fin.ext (by show l.val / 16 / 2 % 4 = l.val / 32 % 4; omega)
  have e3 : (⟨(subOf l).val / 2 / 4, by have := (subOf l).isLt; omega⟩ : Fin 2) = halfOf l := Fin.ext (by show l.val / 16 / 2 / 4 = l.val / 128; omega)
  have r1 : ∀ (h : Fin 2) (p : Fin 64), qlAt x1 s h (ix4 (0 : Fin 1) (0 : Fin 1) p o) = x1 (ix4 s h p o) := fun h p => by
    unfold qlAt; rw [View.ld_apply]; congr 1; funext a
    match a with | ⟨0, _⟩ => exact Fin.ext (by simp) | ⟨1, _⟩ => exact Fin.ext (by simp) | ⟨2, _⟩ => exact Fin.ext (by simp) | ⟨3, _⟩ => exact Fin.ext (by simp)
  have r2 : ∀ (h : Fin 2) (p : Fin 32), qhAt x2 s h (ix4 (0 : Fin 1) (0 : Fin 1) p o) = x2 (ix4 s h p o) := fun h p => by
    unfold qhAt; rw [View.ld_apply]; congr 1; funext a
    match a with | ⟨0, _⟩ => exact Fin.ext (by simp) | ⟨1, _⟩ => exact Fin.ext (by simp) | ⟨2, _⟩ => exact Fin.ext (by simp) | ⟨3, _⟩ => exact Fin.ext (by simp)
  have r3 : ∀ (p : Fin 16), scAt x3 s (ix3 (0 : Fin 1) p o) = x3 (ix3 s p o) := fun p => by
    unfold scAt; rw [View.ld_apply]; congr 1; funext a
    match a with | ⟨0, _⟩ => exact Fin.ext (by simp) | ⟨1, _⟩ => exact Fin.ext (by simp) | ⟨2, _⟩ => exact Fin.ext (by simp)
  have r4 : dAt x4 s (ix3 (0 : Fin 1) (0 : Fin 1) o) = x4 (ix3 s (0 : Fin 1) o) := by
    unfold dAt; rw [View.ld_apply]; congr 1; funext a
    match a with | ⟨0, _⟩ => exact Fin.ext (by simp) | ⟨1, _⟩ => exact Fin.ext (by simp) | ⟨2, _⟩ => exact Fin.ext (by simp)
  simp only [r1, r2, r3, r4, e1, e2, e3]
  rfl

/-! ## Fourteen steps -/

/-- One step at an entry: the sum of 256 products is added. -/
theorem addProduct_apply (w : FVec Ideal S256x512 .bf16) (x : Vec Ideal S256x256 .bf16) (acc : Vec Ideal S256x512 .f32) (r : Fin 256) (o : Fin 512) :
    addProduct (F := Ideal) w x acc (ix2 r o) = acc (ix2 r o) + ∑ l : Fin 256, x (ix2 r l) * w (ix2 l o) := by
  pointwise [addProduct]

/-- The steps of the superblocks below `n`, at an entry. -/
theorem upTo_apply (x0 : Vec Ideal S256x3584 .bf16) (x1 : Vec Ideal S14x2x64x512 .i8) (x2 : Vec Ideal S14x2x32x512 .i8) (x3 : Vec Ideal S14x16x512 .i8)
    (x4 : Vec Ideal S14x1x512 .f16) (acc : Vec Ideal S256x512 .f32) (r : Fin 256) (o : Fin 512) : (n : ℕ) → (h : n ≤ 14) →
    upTo (F := Ideal) x0 x1 x2 x3 x4 acc n h (ix2 r o)
      = acc (ix2 r o) + ∑ s : Fin n, ∑ l : Fin 256,
          xAt x0 ⟨s.val, lt_of_lt_of_le s.isLt h⟩ (ix2 r l) * weights (F := Ideal) x1 x2 x3 x4 ⟨s.val, lt_of_lt_of_le s.isLt h⟩ (ix2 l o)
  | 0, _ => by rw [Fin.sum_univ_zero, add_zero]; rfl
  | n + 1, h => by
    rw [Fin.sum_univ_castSucc, ← add_assoc]
    show addProduct _ _ (upTo (F := Ideal) x0 x1 x2 x3 x4 acc n (Nat.le_of_succ_le h)) (ix2 r o) = _
    rw [addProduct_apply, upTo_apply x0 x1 x2 x3 x4 acc r o n (Nat.le_of_succ_le h)]
    rfl

/-- A point adds, at an entry, the products of its 3584 activations with its 3584 weights. -/
theorem point_apply (x0 : Vec Ideal S256x3584 .bf16) (x1 : Vec Ideal S14x2x64x512 .i8) (x2 : Vec Ideal S14x2x32x512 .i8) (x3 : Vec Ideal S14x16x512 .i8)
    (x4 : Vec Ideal S14x1x512 .f16) (acc : Vec Ideal S256x512 .f32) (r : Fin 256) (o : Fin 512) :
    upTo (F := Ideal) x0 x1 x2 x3 x4 acc 14 le_rfl (ix2 r o)
      = acc (ix2 r o) + ∑ s : Fin 14, ∑ l : Fin 256,
          x0 (ix2 r (⟨s.val * 256 + l.val, by omega⟩ : Fin 3584))
            * weight (fieldOf l) (x1 (ix4 s (halfOf l) (lowRow (fieldOf l) (rowOf l)) o)) (x2 (ix4 s (halfOf l) (rowOf l) o))
              (x4 (ix3 s (0 : Fin 1) o)) (x3 (ix3 s (subOf l) o)) := by
  rw [upTo_apply]
  refine congrArg _ (Finset.sum_congr rfl fun s _ => Finset.sum_congr rfl fun l _ => ?_)
  rw [weights_apply]
  refine congrArg (· * _) ?_
  unfold xAt; rw [View.ld_apply]; congr 1; funext a
  match a with | ⟨0, _⟩ => exact Fin.ext (by simp) | ⟨1, _⟩ => exact Fin.ext (by simp)

/-- The zero fill is zero. -/
theorem fill_apply (i : S256x512.Idx) : k0_pay8 (F := Ideal) i = 0 := by
  pointwise [k0_pay8]

/-- The store of the result changes no value. -/
theorem store_apply (acc : Vec Ideal S256x512 .f32) (i : S256x512.Idx) : k0_pay7 (F := Ideal) acc i = acc i := by
  idx_vars i
  pointwise [k0_pay7]

end Cert.KernelIdeal.Total

end
-- ==== Proof.Array.lean ====
/-
  THE RESULT ARRAY. Each block of 512 columns is accumulated over a run of four points; point `k` of the run holds the
  superblocks 14k to 14k + 13. So an entry of the result is the sum, over the 56 superblocks and the 256 rows of each,
  of an activation times a weight.
-/
module

public import proofs.«01_k».proof.Proof.Weights

@[expose] public section

set_option maxRecDepth 16384

noncomputable section

namespace Cert.KernelIdeal.Total

open Idealize.ShloMosaic Idealize.ShloMosaic.TcCoe Idealize.SL.Sem
open Idealize.ShloMosaic.Pipeline (Dat)
open Cert.KernelIdeal Cert.KernelIdeal.Gen Cert.KernelIdeal.Value Cert.Codes
open scoped BigOperators

variable (m : (ℓ : Loc nD τ sig) → Buf (Elt Ideal) ℓ) (c : Dev nD)

/-- The products a point adds at an entry of its block. -/
def part (x0 : Vec Ideal S256x3584 .bf16) (x1 : Vec Ideal S14x2x64x512 .i8) (x2 : Vec Ideal S14x2x32x512 .i8) (x3 : Vec Ideal S14x16x512 .i8)
    (x4 : Vec Ideal S14x1x512 .f16) (i : S256x512.Idx) : EReal :=
  ∑ s : Fin 14, ∑ l : Fin 256, x0 (ix2 (show Fin 256 from i 0) (⟨s.val * 256 + l.val, by omega⟩ : Fin 3584))
    * weight (fieldOf l) (x1 (ix4 s (halfOf l) (lowRow (fieldOf l) (rowOf l)) (show Fin 512 from i 1))) (x2 (ix4 s (halfOf l) (rowOf l) (show Fin 512 from i 1)))
      (x4 (ix3 s (0 : Fin 1) (show Fin 512 from i 1))) (x3 (ix3 s (subOf l) (show Fin 512 from i 1)))

/-- A point's fourteen steps add its products. -/
theorem point_eq (x0 : Vec Ideal S256x3584 .bf16) (x1 : Vec Ideal S14x2x64x512 .i8) (x2 : Vec Ideal S14x2x32x512 .i8) (x3 : Vec Ideal S14x16x512 .i8)
    (x4 : Vec Ideal S14x1x512 .f16) (acc : Vec Ideal S256x512 .f32) (i : S256x512.Idx) :
    upTo (F := Ideal) x0 x1 x2 x3 x4 acc 14 le_rfl i = acc i + part x0 x1 x2 x3 x4 i := by
  idx_vars i
  exact point_apply x0 x1 x2 x3 x4 acc _ _

/-- A point that begins a run leaves its own products in the accumulator. -/
theorem acc_reset (t : Fin cfg0.N) (h : t.val % 4 = 0) (i : S256x512.Idx) :
    (outsAt0 m c t.val t.isLt).2 i = 0 + part (iblk m c 0 t) (iblk m c 1 t) (iblk m c 2 t) (iblk m c 3 t) (iblk m c 4 t) i := by
  rw [outsAt0_A m c t h (by omega)]
  dsimp only
  rw [scratch_A, point_eq, fill_apply]

/-- Every other point adds its products to what the point before left. -/
theorem acc_step (t : Fin cfg0.N) (h : ¬t.val % 4 = 0) (i : S256x512.Idx) :
    (outsAt0 m c t.val t.isLt).2 i = (outsAt0 m c (t.val - 1) (Nat.lt_of_le_of_lt (Nat.sub_le _ _) t.isLt)).2 i
      + part (iblk m c 0 t) (iblk m c 1 t) (iblk m c 2 t) (iblk m c 3 t) (iblk m c 4 t) i := by
  by_cases h3 : t.val % 4 = 3
  · rw [outsAt0_C m c t h h3]
    dsimp only
    rw [scratch_C, point_eq]
  · rw [outsAt0_B m c t h h3]
    dsimp only
    rw [scratch_B, point_eq]

/-- The last point of a run stores the accumulator as the block of the result. -/
theorem store_eq (t : Fin cfg0.N) (h3 : t.val % 4 = 3) (i : S256x512.Idx) :
    (outsAt0 m c t.val t.isLt).1 i = (outsAt0 m c t.val t.isLt).2 i := by
  rw [outsAt0_C m c t (by omega) h3]
  dsimp only
  rw [out_C, scratch_C, store_apply]

/-- THE RESULT, entry by entry, from the five arguments: the activation at `256 s + l` times the weight of row `l` of
    superblock `s`, summed over `s` and `l`. -/
def result (X : Vec Ideal S256x1x14336 .bf16) (QL : Vec Ideal S56x2x64x4096 .i8) (QH : Vec Ideal S56x2x32x4096 .i8) (SC : Vec Ideal S56x16x4096 .i8)
    (D : Vec Ideal S56x4096 .f16) (r : Fin 256) (o : Fin 4096) : EReal :=
  ∑ s : Fin 56, ∑ l : Fin 256, X (ix3 r (0 : Fin 1) (⟨s.val * 256 + l.val, by omega⟩ : Fin 14336))
    * weight (fieldOf l) (QL (ix4 s (halfOf l) (lowRow (fieldOf l) (rowOf l)) o)) (QH (ix4 s (halfOf l) (rowOf l) o)) (D (ix2 s o)) (SC (ix3 s (subOf l) o))

/-- Which blocks a point holds. -/
theorem idx : ∀ t : Fin cfg0.N, win0_0.index t = ![0, t.val % 4] ∧ win0_1.index t = ![t.val % 4, 0, 0, t.val / 4] ∧ win0_2.index t = ![t.val % 4, 0, 0, t.val / 4]
    ∧ win0_3.index t = ![t.val % 4, 0, t.val / 4] ∧ win0_4.index t = ![t.val % 4, 0, t.val / 4] ∧ win0_5.index t = ![0, t.val / 4] :=
  (by decide +kernel : ∀ t : Fin grid0.N, _)

/-- The activation block of a point: 3584 columns, all rows. -/
theorem blk0 (t : Fin cfg0.N) (r : Fin 256) (q : Fin 3584) :
    (show Vec Ideal S256x3584 .bf16 from iblk m c 0 t) (ix2 r q) = (show Vec Ideal S256x1x14336 .bf16 from m ((c : Thread nD τ).loc main_arg0)) (ix3 r (0 : Fin 1) (⟨t.val % 4 * 3584 + q.val, by omega⟩ : Fin 14336)) := by
  blk_point [iblk, idx t]
/-- The low plane's block: fourteen superblocks, 512 columns. -/
theorem blk1 (t : Fin cfg0.N) (ht : t.val / 4 < 8) (s : Fin 14) (h : Fin 2) (p : Fin 64) (o : Fin 512) :
    (show Vec Ideal S14x2x64x512 .i8 from iblk m c 1 t) (ix4 s h p o) = (show Vec Ideal S56x2x64x4096 .i8 from m ((c : Thread nD τ).loc main_arg1))
      (ix4 (⟨t.val % 4 * 14 + s.val, by omega⟩ : Fin 56) h p (⟨t.val / 4 * 512 + o.val, by omega⟩ : Fin 4096)) := by
  blk_point [iblk, V, idx t]
/-- The high plane's block, likewise. -/
theorem blk2 (t : Fin cfg0.N) (ht : t.val / 4 < 8) (s : Fin 14) (h : Fin 2) (p : Fin 32) (o : Fin 512) :
    (show Vec Ideal S14x2x32x512 .i8 from iblk m c 2 t) (ix4 s h p o) = (show Vec Ideal S56x2x32x4096 .i8 from m ((c : Thread nD τ).loc main_arg2))
      (ix4 (⟨t.val % 4 * 14 + s.val, by omega⟩ : Fin 56) h p (⟨t.val / 4 * 512 + o.val, by omega⟩ : Fin 4096)) := by
  blk_point [iblk, V, idx t]
/-- The sub-block scales' block, likewise. -/
theorem blk3 (t : Fin cfg0.N) (ht : t.val / 4 < 8) (s : Fin 14) (j : Fin 16) (o : Fin 512) :
    (show Vec Ideal S14x16x512 .i8 from iblk m c 3 t) (ix3 s j o) = (show Vec Ideal S56x16x4096 .i8 from m ((c : Thread nD τ).loc main_arg3))
      (ix3 (⟨t.val % 4 * 14 + s.val, by omega⟩ : Fin 56) j (⟨t.val / 4 * 512 + o.val, by omega⟩ : Fin 4096)) := by
  blk_point [iblk, V, idx t]
/-- The superblock scales' block, likewise. -/
theorem blk4 (t : Fin cfg0.N) (ht : t.val / 4 < 8) (s : Fin 14) (o : Fin 512) :
    (show Vec Ideal S14x1x512 .f16 from iblk m c 4 t) (ix3 s (0 : Fin 1) o) = (show Vec Ideal S56x4096 .f16 from m ((c : Thread nD τ).loc main_arg4))
      (ix2 (⟨t.val % 4 * 14 + s.val, by omega⟩ : Fin 56) (⟨t.val / 4 * 512 + o.val, by omega⟩ : Fin 4096)) := by
  blk_point [iblk, V, idx t]

/-- Equal bytes and scales make equal products. -/
theorem product_congr (f : Fin 4) {x x' d d' : EReal} {a a' q q' sc sc' : BitVec 8} (hx : x = x') (ha : a = a') (hq : q = q') (hd : d = d') (hs : sc = sc') :
    x * weight f a q d sc = x' * weight f a' q' d' sc' := by
  subst hx ha hq hd hs; rfl

/-- The result array holds the result. -/
theorem final : (dats m 0 c).arrAt 5 cfg0.N
    = fun i : S256x4096.Idx => result (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  have h3 : t.val % 4 = 3 := (flush0_5 t).mp hf
  blk_simp
  rw [after0_5, store_eq m c t h3, Pipeline.eq_sum_fin_of_reset_step_apply_of_flush (fun n h => (outsAt0 m c n h).2) 4 (fun _ => (0 : EReal))
    (fun t i => part (iblk m c 0 t) (iblk m c 1 t) (iblk m c 2 t) (iblk m c 3 t) (iblk m c 4 t) i)
    (acc_reset m c) (acc_step m c) t h3 _, zero_add]
  unfold result part
  refine Fin.sum_mul_add_congr fun k s hs => ?_
  refine Fin.sum_fin_congr fun l => ?_
  have ht : t.val < 32 := lt_of_lt_of_eq t.isLt N_0
  have hp : 4 * (t.val / 4) + k.val < cfg0.N := Pipeline.run_point_lt_of_flush t h3 k
  have hq : (4 * (t.val / 4) + k.val) / 4 < 8 := by omega
  refine product_congr _ ((blk0 m c ⟨_, hp⟩ _ _).trans ?_) ((blk1 m c ⟨_, hp⟩ hq _ _ _ _).trans ?_) ((blk2 m c ⟨_, hp⟩ hq _ _ _ _).trans ?_)
    ((blk4 m c ⟨_, hp⟩ hq _ _).trans ?_) ((blk3 m c ⟨_, hp⟩ hq _ _ _).trans ?_)
  all_goals blk_ext [idx t]

end Cert.KernelIdeal.Total

end
-- ==== Proof.Ref.lean ====
/-
  THE REFERENCE, ENTRY BY ENTRY, over the extended reals. For each of the four fields it multiplies the columns of the
  activation that meet the field with the field's weights, and it adds the four products.
-/
module

public import proofs.«01_k».proof.Proof.Gen.ReferenceIdeal.Run
public import proofs.«01_k».proof.Proof.Gen.ReferenceIdeal.Read
public import proofs.«01_k».proof.Proof.Bits
public import Idealize.ShloMosaic.Lib.Pointwise
public import Idealize.ShloMosaic.Lib.Pipeline.ValueKit

@[expose] public section

set_option maxRecDepth 16384

noncomputable section

namespace Cert.ReferenceIdeal.Total

open Idealize.ShloMosaic Idealize.ShloMosaic.TcCoe Idealize.SL.Sem
open Cert.ReferenceIdeal Cert.ReferenceIdeal.Gen Cert.ReferenceIdeal.Value Cert.ReferenceIdeal.Read Cert.Codes
open scoped BigOperators

/-- The dimensions of the product: halves, rows of a field and superblocks are summed over. -/
abbrev dims : DotDims S256x1x56x2x32 S56x2x32x4096 S256x1x4096 := dot_S256x1x56x2x32_S56x2x32x4096_S256x1x4096_342_120_01_3_n_n

/-- A place of the sum, from its half, row and superblock. -/
def place (k : Fin 2 × Fin 32 × Fin 56) : dims.contr.Idx := fun (a : Fin 3) => match a with
  | ⟨0, _⟩ => (show Fin 2 from k.1)
  | ⟨1, _⟩ => (show Fin 32 from k.2.1)
  | ⟨2, _⟩ => (show Fin 56 from k.2.2)

/-- The places of the sum are the triples. -/
def places : Fin 2 × Fin 32 × Fin 56 ≃ dims.contr.Idx where
  toFun := place
  invFun i := (i (0 : Fin 3), i (1 : Fin 3), i (2 : Fin 3))
  left_inv _ := rfl
  right_inv i := by
    funext (a : Fin 3)
    match a with | ⟨0, _⟩ => rfl | ⟨1, _⟩ => rfl | ⟨2, _⟩ => rfl

/-- The product over the superblocks, the halves and the rows of a field, at an entry. -/
theorem dot_apply (L : FVec Ideal S256x1x56x2x32 .bf16) (R : FVec Ideal S56x2x32x4096 .bf16) (r : Fin 256) (o : Fin 4096) :
    Host.dotGeneral dims none L R (ix3 r (0 : Fin 1) o)
      = ∑ h : Fin 2, ∑ p : Fin 32, ∑ n : Fin 56, L (ix5 r (0 : Fin 1) n h p) * R (ix4 n h p o) := by
  show (0 : EReal) + ∑ k : dims.contr.Idx, L (dims.lhsIdx (ix3 r (0 : Fin 1) o) k) * R (dims.rhsIdx (ix3 r (0 : Fin 1) o) k) = _
  rw [zero_add, ← Fintype.sum_equiv places (fun k => L (ix5 r (0 : Fin 1) k.2.2 k.1 k.2.1) * R (ix4 k.2.2 k.1 k.2.1 o)) _ fun k => ?_]
  · simp only [Fintype.sum_prod_type]
  · congr 2
    · funext a
      match a with | ⟨0, _⟩ => rfl | ⟨1, _⟩ => rfl | ⟨2, _⟩ => rfl | ⟨3, _⟩ => rfl | ⟨4, _⟩ => rfl
    · funext a
      match a with | ⟨0, _⟩ => rfl | ⟨1, _⟩ => rfl | ⟨2, _⟩ => rfl | ⟨3, _⟩ => rfl

variable (x0 : Vec Ideal S256x1x14336 .bf16) (x1 : Vec Ideal S56x2x64x4096 .i8) (x2 : Vec Ideal S56x2x32x4096 .i8) (r0 : Vec Ideal S56x16x4096 .bf16)

/-- The word of each field, for every code at once. -/
def words (f : Fin 4) : IVec S56x2x32x4096 32 :=
  match f with
  | 0 => val_main_v12 (F := Ideal) x1 x2 | 1 => val_main_v21 (F := Ideal) x1 x2 | 2 => val_main_v30 (F := Ideal) x1 x2 | 3 => val_main_v39 (F := Ideal) x1 x2
/-- The weights of each field. -/
def fieldWeights (f : Fin 4) : FVec Ideal S56x2x32x4096 .bf16 :=
  match f with
  | 0 => val_main_v50 (F := Ideal) x1 x2 r0 | 1 => val_main_v63 (F := Ideal) x1 x2 r0 | 2 => val_main_v77 (F := Ideal) x1 x2 r0 | 3 => val_main_v91 (F := Ideal) x1 x2 r0
/-- The columns of the activation that meet each field. -/
def fieldColumns (f : Fin 4) : FVec Ideal S256x1x56x2x32 .bf16 :=
  match f with
  | 0 => val_main_v52 (F := Ideal) x0 | 1 => val_main_v65 (F := Ideal) x0 | 2 => val_main_v79 (F := Ideal) x0 | 3 => val_main_v93 (F := Ideal) x0

/-- A code's word is the word of the two bytes that hold it. -/
theorem words_apply (f : Fin 4) (n : Fin 56) (h : Fin 2) (p : Fin 32) (o : Fin 4096) :
    words x1 x2 f (ix4 n h p o) = word f (x1 (ix4 n h (lowRow f p) o)) (x2 (ix4 n h p o)) := by
  have e0 : lowRow 0 p = ⟨p.val, by omega⟩ := Fin.ext (by show 32 * (0 % 2) + p.val = p.val; omega)
  have e1 : lowRow 1 p = ⟨32 + p.val, by omega⟩ := rfl
  have e2 : lowRow 2 p = ⟨p.val, by omega⟩ := Fin.ext (by show 32 * (2 % 2) + p.val = p.val; omega)
  have e3 : lowRow 3 p = ⟨32 + p.val, by omega⟩ := rfl
  fin_cases f
  all_goals
    pointwise [words, val_main_v1, val_main_v2, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_c, val_main_c_0, val_main_c_1, val_main_c_2, val_main_c_3, val_main_c_4, val_main_c_5, val_main_c_6, val_main_c_7, val_main_c_8, val_main_c_9, val_main_c_10, val_main_c_11, val_main_c_12, val_main_c_13]
    simp only [e0, e1, e2, e3]
    rfl

/-- The columns that meet a field. -/
theorem fieldColumns_apply (f : Fin 4) (r : Fin 256) (n : Fin 56) (h : Fin 2) (p : Fin 32) :
    fieldColumns x0 f (ix5 r (0 : Fin 1) n h p) = x0 (ix3 r (0 : Fin 1) (⟨n.val * 256 + (h.val * 128 + (f.val * 32 + p.val)), by omega⟩ : Fin 14336)) := by
  fin_cases f
  all_goals
    pointwise [fieldColumns, val_main_v40, val_main_v51, val_main_v52, val_main_v64, val_main_v65, val_main_v78, val_main_v79, val_main_v92, val_main_v93]
    blk_ext

/-- A field's weight: the code less 32, times its effective scale. -/
theorem fieldWeights_apply (f : Fin 4) (n : Fin 56) (h : Fin 2) (p : Fin 32) (o : Fin 4096) :
    fieldWeights x1 x2 r0 f (ix4 n h p o)
      = ((((words x1 x2 f (ix4 n h p o)).toInt : ℝ) : EReal) - Scalar.ofBits (F := Ideal) .bf16 0x4200#16)
          * r0 (ix3 n (⟨(h.val * 4 + f.val) * 2 + p.val / 16, by omega⟩ : Fin 16) o) := by
  fin_cases f
  all_goals
    pointwise [fieldWeights, words, val_main_v3, val_main_v41, val_main_v42, val_main_v43, val_main_v44, val_main_v45, val_main_v46, val_main_v47, val_main_v48, val_main_v49, val_main_v50, val_main_v54, val_main_v55, val_main_v56, val_main_v57, val_main_v58, val_main_v59, val_main_v60, val_main_v61, val_main_v62, val_main_v63, val_main_v68, val_main_v69, val_main_v70, val_main_v71, val_main_v72, val_main_v73, val_main_v74, val_main_v75, val_main_v76, val_main_v77, val_main_v82, val_main_v83, val_main_v84, val_main_v85, val_main_v86, val_main_v87, val_main_v88, val_main_v89, val_main_v90, val_main_v91, val_main_cst, val_main_cst_14, val_main_cst_15, val_main_cst_16]
    refine congrArg _ ?_
    blk_ext

/-- The result at an entry: the four fields' products, added. -/
theorem total_apply (r : Fin 256) (o : Fin 4096) :
    val_main_v97 (F := Ideal) x0 x1 x2 r0 (ix2 r o)
      = ∑ f : Fin 4, ∑ h : Fin 2, ∑ p : Fin 32, ∑ n : Fin 56, fieldColumns x0 f (ix5 r (0 : Fin 1) n h p) * fieldWeights x1 x2 r0 f (ix4 n h p o) := by
  pointwise [val_main_v97, val_main_v96, val_main_v95, val_main_v81, val_main_v67]
  simp only [Fin.sum_univ_four, ← dot_apply]
  rfl

/-- The code 32, read as a float. -/
theorem ofBits_thirtytwo : Scalar.ofBits (F := Ideal) .bf16 0x4200#16 = (((32 : ℤ) : ℝ) : EReal) := by
  show Ideal.ofBits .bf16 0x4200#16 = _
  simp [Ideal.ofBits, Ideal.ieee, -EReal.coe_mul]
  norm_num

variable (m : (ℓ : Loc nD τ sig) → Buf (Elt Ideal) ℓ) (c : Dev nD)

/-- What the region stores, at an entry. -/
theorem scale_point (d : Vec Ideal S56x4096 .f16) (sc : Vec Ideal S56x16x4096 .i8) (n : Fin 56) (j : Fin 16) (o : Fin 4096) :
    k0_pay1 (F := Ideal) d sc (ix3 n j o) = d (ix2 n o) * (((sc (ix3 n j o)).toInt : ℝ) : EReal) := by
  pointwise [k0_pay1]
  rfl

/-- Its only point holds the whole arrays. -/
theorem idx : ∀ t : Fin cfg0.N, win0_0.index t = ![0, 0] ∧ win0_1.index t = ![0, 0, 0] ∧ win0_2.index t = ![0, 0, 0] :=
  (by decide +kernel : ∀ t : Fin grid0.N, _)

/-- The superblock scales that its point holds. -/
theorem blk0 (t : Fin cfg0.N) (n : Fin 56) (o : Fin 4096) :
    (show Vec Ideal S56x4096 .f16 from iblk m c 0 t) (ix2 n o) = (show Vec Ideal S56x4096 .f16 from m ((c : Thread nD τ).loc main_arg4)) (ix2 n o) := by
  blk_point [iblk, V0, idx t]
/-- The sub-block scales that its point holds. -/
theorem blk1 (t : Fin cfg0.N) (n : Fin 56) (j : Fin 16) (o : Fin 4096) :
    (show Vec Ideal S56x16x4096 .i8 from iblk m c 1 t) (ix3 n j o) = (show Vec Ideal S56x16x4096 .i8 from m ((c : Thread nD τ).loc main_arg3)) (ix3 n j o) := by
  blk_point [iblk, V0, idx t]

/-- An effective scale, from the two arrays of scales: a superblock's scale times a sub-block's own. -/
def scaleOf (d : Vec Ideal S56x4096 .f16) (sc : Vec Ideal S56x16x4096 .i8) (i : S56x16x4096.Idx) : EReal :=
  d (ix2 (show Fin 56 from i 0) (show Fin 4096 from i 2)) * (((sc i).toInt : ℝ) : EReal)

/-- The region leaves the effective scales. -/
theorem scales_eq : reg_main_v0 m c = scaleOf (m ((c : Thread nD τ).loc main_arg4)) (m ((c : Thread nD τ).loc main_arg3)) := by
  refine (dats m 0 c).arrAt_eq_of_covers 2 _ (by decide +kernel) fun t hf y => ?_
  blk_simp
  rw [after0_2]
  frame_out
  idx_vars y
  refine (scale_point _ _ _ _ _).trans ?_
  refine (congrArg₂ (fun (a : EReal) (b : BitVec 8) => a * (((b.toInt : ℝ)) : EReal)) (blk0 m c t _ _) (blk1 m c t _ _ _)).trans ?_
  show scaleOf _ _ (ix3 y0 y1 y2) = _
  blk_ext [idx t]

/-- THE REFERENCE, entry by entry, from the five arguments: for each field, the activation times the weight, summed
    over the halves, the field's rows and the superblocks. -/
theorem reference_apply (d : Vec Ideal S56x4096 .f16) (sc : Vec Ideal S56x16x4096 .i8) (r : Fin 256) (o : Fin 4096) :
    val_main_v97 (F := Ideal) x0 x1 x2 (scaleOf d sc) (ix2 r o)
      = ∑ f : Fin 4, ∑ h : Fin 2, ∑ p : Fin 32, ∑ n : Fin 56, x0 (ix3 r (0 : Fin 1) (⟨n.val * 256 + (h.val * 128 + (f.val * 32 + p.val)), by omega⟩ : Fin 14336))
        * weight f (x1 (ix4 n h (lowRow f p) o)) (x2 (ix4 n h p o)) (d (ix2 n o)) (sc (ix3 n (⟨(h.val * 4 + f.val) * 2 + p.val / 16, by omega⟩ : Fin 16) o)) := by
  rw [total_apply]
  refine Fin.sum_fin_congr fun f => Fin.sum_fin_congr fun h => Fin.sum_fin_congr fun p => Fin.sum_fin_congr fun n => ?_
  rw [fieldColumns_apply, fieldWeights_apply, words_apply, word_toInt, ofBits_thirtytwo, ← EReal.coe_sub, ← Int.cast_sub]
  rfl

end Cert.ReferenceIdeal.Total

end
-- ==== Proof.Reindex.lean ====
/-
  THE ROWS OF A SUPERBLOCK. A superblock has 256 rows: two halves, in each half four fields, in each field 32 rows. A
  sum over fields, halves, rows and superblocks is the sum over superblocks and their 256 rows.
-/
module

public import Mathlib.Algebra.BigOperators.Fin
public import Mathlib.Tactic.FinCases

@[expose] public section

namespace Cert.Codes

open scoped BigOperators

/-- A row of a superblock is a half, a field and a row of the field. -/
def rows : Fin 256 ≃ Fin 2 × Fin 4 × Fin 32 where
  toFun l := (⟨l.val / 128, by omega⟩, ⟨l.val / 32 % 4, by omega⟩, ⟨l.val % 32, by omega⟩)
  invFun k := ⟨k.1.val * 128 + (k.2.1.val * 32 + k.2.2.val), by omega⟩
  left_inv l := Fin.ext (by dsimp only; omega)
  right_inv k := by
    obtain ⟨h, f, p⟩ := k
    refine Prod.ext (Fin.ext ?_) (Prod.ext (Fin.ext ?_) (Fin.ext ?_)) <;> dsimp only <;> omega

/-- The sum by fields is the sum by superblocks and rows. -/
theorem sum_rows {M : Type*} [AddCommMonoid M] (F : Fin 56 → Fin 2 → Fin 4 → Fin 32 → M) :
    ∑ f : Fin 4, ∑ h : Fin 2, ∑ p : Fin 32, ∑ n : Fin 56, F n h f p
      = ∑ n : Fin 56, ∑ l : Fin 256, F n (rows l).1 (rows l).2.1 (rows l).2.2 := by
  have e : ∀ n : Fin 56, ∑ l : Fin 256, F n (rows l).1 (rows l).2.1 (rows l).2.2 = ∑ f : Fin 4, ∑ h : Fin 2, ∑ p : Fin 32, F n h f p := fun n => by
    rw [Fintype.sum_equiv rows _ (fun k => F n k.1 k.2.1 k.2.2) fun _ => rfl, Fintype.sum_prod_type]
    simp only [Fintype.sum_prod_type]
    exact Finset.sum_comm
  simp only [e]
  rw [Finset.sum_comm (s := (Finset.univ : Finset (Fin 56)))]
  refine Finset.sum_congr rfl fun f _ => ?_
  rw [Finset.sum_comm (s := (Finset.univ : Finset (Fin 56)))]
  refine Finset.sum_congr rfl fun h _ => ?_
  rw [Finset.sum_comm]

end Cert.Codes
-- ==== Proof.Equal.lean ====
/-
  THE TWO RESULTS ARE EQUAL. The kernel sums over superblocks and their 256 rows; the reference sums by fields. Both sum
  the same products.
-/
module

public import proofs.«01_k».proof.Defs
public import proofs.«01_k».proof.Proof.Array
public import proofs.«01_k».proof.Proof.Ref
public import proofs.«01_k».proof.Proof.Reindex

@[expose] public section

set_option maxRecDepth 16384

noncomputable section

namespace Cert.Equal

open Idealize.ShloMosaic Idealize.ShloMosaic.TcCoe Idealize.SL.Sem
open Cert.KernelIdeal (S256x1x14336 S56x2x64x4096 S56x2x32x4096 S56x16x4096 S56x4096)
open Cert.KernelIdeal.Total Cert.ReferenceIdeal.Read Cert.Codes
open Cert.ReferenceIdeal.Total (scaleOf reference_apply)
open scoped BigOperators

/-- An entry of the reference's result is the same entry of the kernel's. -/
theorem entry (X : Vec Ideal S256x1x14336 .bf16) (QL : Vec Ideal S56x2x64x4096 .i8) (QH : Vec Ideal S56x2x32x4096 .i8) (SC : Vec Ideal S56x16x4096 .i8)
    (D : Vec Ideal S56x4096 .f16) (r : Fin 256) (o : Fin 4096) :
    val_main_v97 (F := Ideal) X QL QH (scaleOf D SC) (ix2 r o) = result X QL QH SC D r o := by
  rw [reference_apply]
  refine (sum_rows fun n h f p => X (ix3 r (0 : Fin 1) (⟨n.val * 256 + (h.val * 128 + (f.val * 32 + p.val)), by omega⟩ : Fin 14336))
        * weight f (QL (ix4 n h (lowRow f p) o)) (QH (ix4 n h p o)) (D (ix2 n o)) (SC (ix3 n (⟨(h.val * 4 + f.val) * 2 + p.val / 16, by omega⟩ : Fin 16) o))).trans ?_
  unfold result
  refine Fin.sum_fin_congr fun n => Fin.sum_fin_congr fun l => ?_
  refine product_congr _ (congrArg X (congrArg (ix3 r (0 : Fin 1)) (Fin.ext ?_))) rfl rfl rfl (congrArg SC (congrArg (ix3 n · o) (Fin.ext ?_)))
  · show n.val * 256 + (l.val / 128 * 128 + (l.val / 32 % 4 * 32 + l.val % 32)) = n.val * 256 + l.val
    omega
  · show (l.val / 128 * 4 + l.val / 32 % 4) * 2 + l.val % 32 / 16 = l.val / 16
    omega

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The array the reference leaves is the array the kernel leaves, when the two are launched on the same arguments. -/
theorem arrays (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    val_main_v97 (F := Ideal) (Cert.ReferenceIdeal.Value.exitV m' c (Proc.devRef .tc Cert.ReferenceIdeal.main_arg0)) (Cert.ReferenceIdeal.Value.exitV m' c (Proc.devRef .tc Cert.ReferenceIdeal.main_arg1))
        (Cert.ReferenceIdeal.Value.exitV m' c (Proc.devRef .tc Cert.ReferenceIdeal.main_arg2)) (Cert.ReferenceIdeal.Value.exitV m' c (Proc.devRef .tc Cert.ReferenceIdeal.main_v0))
      = (Cert.KernelIdeal.Gen.dats m 0 c).arrAt 5 Cert.KernelIdeal.cfg0.N := by
  rw [Cert.ReferenceIdeal.Value.exit_main_arg0, Cert.ReferenceIdeal.Value.exit_main_arg1, Cert.ReferenceIdeal.Value.exit_main_arg2, Cert.ReferenceIdeal.Value.exit_main_v0,
    Cert.ReferenceIdeal.Total.scales_eq, final]
  funext i
  idx_vars i
  refine (entry _ _ _ _ _ _ _).trans ?_
  erw [h0, h1, h2, h3, h4]

/-- Over the extended reals the kernel and the reference end with the same result. -/
theorem algebraic : Cert.algebraic_KernelIdeal_ReferenceIdeal := by
  intro m g m' g' _ hagree
  refine ⟨fun c => (Cert.KernelIdeal.Gen.dats m 0 c).arrAt 5 Cert.KernelIdeal.cfg0.N, ?_, ?_⟩
  · refine (θ_run _ _ _).mono (fun r h c => ?_) (Cert.KernelIdeal.Value.run m g)
    exact ⟨(h c).1.trans (Cert.KernelIdeal.Value.final5 m c).symm, (h c).2⟩
  · refine (θ_run _ _ _).mono (fun r h c => ?_) (Cert.ReferenceIdeal.Value.run m' g')
    obtain ⟨h0, h1, h2, h3, h4⟩ := hagree c
    exact ⟨((h c).1.trans (val_main_v97_eq _)).trans (arrays m m' c h0 h1 h2 h3 h4), (h c).2⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The five claims: the three programs' frames, the kernel's text over the extended reals, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Equal.algebraic⟩

end Cert.Proof

end
